-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_parameters [hPre_plain_parameters : Cert.Pre_plain_parameters.Facts] (m : (ℓ : Loc Cert.KernelIdeal.nD Cert.KernelIdeal.τ Cert.KernelIdeal.sig) → Buf (Elt Ideal) ℓ) : Prop :=
  ∀ c : Dev Cert.KernelIdeal.nD,
    (Cert.Pre_plain_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_plain_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_plain_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_plain_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_plain_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_plain_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_plain_parameters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_parameters [hPre_plain_parameters : Cert.Pre_plain_parameters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_plain_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_plain_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_plain_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_plain_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_plain_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_plain_parameters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_plain_parameters [hKernelIdeal : Cert.KernelIdeal.Facts] [hPre_plain_parameters : Cert.Pre_plain_parameters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_parameters m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_plain_parameters [hReferenceIdeal : Cert.ReferenceIdeal.Facts] [hPre_plain_parameters : Cert.Pre_plain_parameters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_parameters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_plain_parameters [hKernelIdeal : Cert.KernelIdeal.Facts] [hReferenceIdeal : Cert.ReferenceIdeal.Facts] [hPre_plain_parameters : Cert.Pre_plain_parameters.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_parameters m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_plain_parameters : Cert.Pre_plain_parameters.Facts),
    quiescent_Kernel (hKernel := hKernel)
    ∧ quiescent_KernelIdeal (hKernelIdeal := hKernelIdeal)
    ∧ quiescent_KernelIdeal_pre_plain_parameters (hKernelIdeal := hKernelIdeal) (hPre_plain_parameters := hPre_plain_parameters)
    ∧ quiescent_ReferenceIdeal (hReferenceIdeal := hReferenceIdeal)
    ∧ quiescent_ReferenceIdeal_pre_plain_parameters (hReferenceIdeal := hReferenceIdeal) (hPre_plain_parameters := hPre_plain_parameters)
    ∧ preserves_Kernel_KernelIdeal
    ∧ algebraic_KernelIdeal_ReferenceIdeal_pre_plain_parameters (hKernelIdeal := hKernelIdeal) (hReferenceIdeal := hReferenceIdeal) (hPre_plain_parameters := hPre_plain_parameters)
-- ==== Pre_plain_parameters.lean ====
abbrev S1024x50x768 : Shape := ⟨3, ![1024, 50, 768]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S1024x50x768 : S_.BroadcastsInDim S1024x50x768 (![] : Fin 0 → Fin S1024x50x768.rank)
  bcast_S_S1024 : S_.BroadcastsInDim S1024 (![] : Fin 0 → Fin S1024.rank)
  bcast_S_S256 : S_.BroadcastsInDim S256 (![] : Fin 0 → Fin S256.rank)

variable [Facts]

def fn {F : FTy → Type} [FloatOps F] (main_arg0 : FVec F S1024x50x768 .f32) (main_arg1 : FVec F S768x1024 .f32) (main_arg2 : FVec F S1024 .f32) (main_arg3 : FVec F S1024 .f32) (main_arg4 : FVec F S1024 .f32) (main_arg5 : FVec F S1024x256 .f32) (main_arg6 : FVec F S256 .f32) (main_arg7 : FVec F S256 .f32) (main_arg8 : FVec F S256 .f32) : IVec S1024x50x768 1 × IVec S1024 1 × IVec S1024 1 × IVec S1024 1 × IVec S256 1 × IVec S256 1 × IVec S256 1 :=
  let main_v0 : FVec F S1024x50x768 .f32 := Host.absf main_arg0
  let main_cst : FVec F S_ .f32 := constant S_ .f32 0x7F800000#32
  let main_v1 : FVec F S1024x50x768 .f32 := broadcastInDim S1024x50x768 ![] bcast_S_S1024x50x768 main_cst
  let main_v2 : IVec S1024x50x768 1 := cmpf .olt main_v0 main_v1
  let main_cst_0 : FVec F S_ .f32 := constant S_ .f32 0x00000000#32
  let main_v3 : FVec F S1024 .f32 := broadcastInDim S1024 ![] bcast_S_S1024 main_cst_0
  let main_v4 : IVec S1024 1 := cmpf .oeq main_arg2 main_v3
  let main_cst_1 : FVec F S_ .f32 := constant S_ .f32 0x3F800000#32
  let main_v5 : FVec F S1024 .f32 := broadcastInDim S1024 ![] bcast_S_S1024 main_cst_1
  let main_v6 : IVec S1024 1 := cmpf .oeq main_arg3 main_v5
  let main_cst_2 : FVec F S_ .f32 := constant S_ .f32 0x00000000#32
  let main_v7 : FVec F S1024 .f32 := broadcastInDim S1024 ![] bcast_S_S1024 main_cst_2
  let main_v8 : IVec S1024 1 := cmpf .oeq main_arg4 main_v7
  let main_cst_3 : FVec F S_ .f32 := constant S_ .f32 0x00000000#32
  let main_v9 : FVec F S256 .f32 := broadcastInDim S256 ![] bcast_S_S256 main_cst_3
  let main_v10 : IVec S256 1 := cmpf .oeq main_arg6 main_v9
  let main_cst_4 : FVec F S_ .f32 := constant S_ .f32 0x3F800000#32
  let main_v11 : FVec F S256 .f32 := broadcastInDim S256 ![] bcast_S_S256 main_cst_4
  let main_v12 : IVec S256 1 := cmpf .oeq main_arg7 main_v11
  let main_cst_5 : FVec F S_ .f32 := constant S_ .f32 0x00000000#32
  let main_v13 : FVec F S256 .f32 := broadcastInDim S256 ![] bcast_S_S256 main_cst_5
  let main_v14 : IVec S256 1 := cmpf .oeq main_arg8 main_v13
  (main_v2, main_v4, main_v6, main_v8, main_v10, main_v12, main_v14)
-- ==== Kernel.lean ====
abbrev S1024x50x768 : Shape := ⟨3, ![1024, 50, 768]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S_ : Shape := ⟨0, ![]⟩
abbrev S768 : Shape := ⟨1, ![768]⟩
abbrev S768x1 : Shape := ⟨2, ![768, 1]⟩
abbrev S1024x1 : Shape := ⟨2, ![1024, 1]⟩
abbrev S50x1024x768 : Shape := ⟨3, ![50, 1024, 768]⟩
abbrev S50x1024x256 : Shape := ⟨3, ![50, 1024, 256]⟩
abbrev S50x64x768 : Shape := ⟨3, ![50, 64, 768]⟩
abbrev S50x64x256 : Shape := ⟨3, ![50, 64, 256]⟩
abbrev S3200x768 : Shape := ⟨2, ![3200, 768]⟩
abbrev S3200x1024 : Shape := ⟨2, ![3200, 1024]⟩
abbrev S3200 : Shape := ⟨1, ![3200]⟩
abbrev S3200x1 : Shape := ⟨2, ![3200, 1]⟩
abbrev S3200x256 : Shape := ⟨2, ![3200, 256]⟩
abbrev S1024x50x256 : Shape := ⟨3, ![1024, 50, 256]⟩

abbrev nBuf : Space → Nat
  | .hbm => 30
  | .vmem => 6
  | .smem => 0
  | _ => 0

abbrev bufTy : (tb : Table) → Fin (tcTables nBuf tb) → BufTy
  | .hbm, ⟨0, _⟩ => ⟨S1024x50x768, .f32⟩
  | .hbm, ⟨1, _⟩ => ⟨S768x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S768, .f32⟩
  | .hbm, ⟨11, _⟩ => ⟨S768x1, .f32⟩
  | .hbm, ⟨12, _⟩ => ⟨S_, .f32⟩
  | .hbm, ⟨13, _⟩ => ⟨S768x1, .f32⟩
  | .hbm, ⟨14, _⟩ => ⟨S768x1, .f32⟩
  | .hbm, ⟨15, _⟩ => ⟨S768x1024, .f32⟩
  | .hbm, ⟨16, _⟩ => ⟨S768x1024, .f32⟩
  | .hbm, ⟨17, _⟩ => ⟨S768x1024, .bf16⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x256, .f32⟩
  | .hbm, ⟨25, _⟩ => ⟨S1024x256, .f32⟩
  | .hbm, ⟨26, _⟩ => ⟨S1024x256, .bf16⟩
  | .hbm, ⟨27, _⟩ => ⟨S50x1024x768, .f32⟩
  | .hbm, ⟨28, _⟩ => ⟨S50x1024x256, .f32⟩
  | .hbm, ⟨29, _⟩ => ⟨S1024x50x256, .f32⟩
  | .local _ .vmem, ⟨0, _⟩ => ⟨S50x64x768, .f32⟩
  | .local _ .vmem, ⟨1, _⟩ => ⟨S50x64x768, .f32⟩
  | .local _ .vmem, ⟨2, _⟩ => ⟨S768x1024, .bf16⟩
  | .local _ .vmem, ⟨3, _⟩ => ⟨S1024x256, .bf16⟩
  | .local _ .vmem, ⟨4, _⟩ => ⟨S50x64x256, .f32⟩
  | .local _ .vmem, ⟨5, _⟩ => ⟨S50x64x256, .f32⟩
  | _, _ => ⟨S1024x50x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S50x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S50x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x50x768 : Shape := ⟨3, ![1024, 50, 768]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S1024x50x1024 : Shape := ⟨3, ![1024, 50, 1024]⟩
abbrev S1x1x1024 : Shape := ⟨3, ![1, 1, 1024]⟩
abbrev S_ : Shape := ⟨0, ![]⟩
abbrev S1024x50 : Shape := ⟨2, ![1024, 50]⟩
abbrev S1024x50x1 : Shape := ⟨3, ![1024, 50, 1]⟩
abbrev S1024x50x256 : Shape := ⟨3, ![1024, 50, 256]⟩
abbrev S1x1x256 : Shape := ⟨3, ![1, 1, 256]⟩

abbrev nBuf : Space → Nat
  | .hbm => 84
  | .vmem => 0
  | .smem => 0
  | _ => 0

abbrev bufTy : (tb : Table) → Fin (tcTables nBuf tb) → BufTy
  | .hbm, ⟨0, _⟩ => ⟨S1024x50x768, .f32⟩
  | .hbm, ⟨1, _⟩ => ⟨S768x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1024x50x1024, .f32⟩
  | .hbm, ⟨10, _⟩ => ⟨S1x1x1024, .f32⟩
  | .hbm, ⟨11, _⟩ => ⟨S1024x50x1024, .f32⟩
  | .hbm, ⟨12, _⟩ => ⟨S1024x50x1024, .f32⟩
  | .hbm, ⟨13, _⟩ => ⟨S_, .f32⟩
  | .hbm, ⟨14, _⟩ => ⟨S1024x50, .f32⟩
  | .hbm, ⟨15, _⟩ => ⟨S1024x50x1, .f32⟩
  | .hbm, ⟨16, _⟩ => ⟨S_, .f32⟩
  | .hbm, ⟨17, _⟩ => ⟨S1024x50x1, .f32⟩
  | .hbm, ⟨18, _⟩ => ⟨S1024x50x1, .f32⟩
  | .hbm, ⟨19, _⟩ => ⟨S1024x50x1024, .f32⟩
  | .hbm, ⟨20, _⟩ => ⟨S1024x50x1024, .f32⟩
  | .hbm, ⟨21, _⟩ => ⟨S1024x50x1024, .f32⟩
  | .hbm, ⟨22, _⟩ => ⟨S_, .f32⟩
  | .hbm, ⟨23, _⟩ => ⟨S1024x50, .f32⟩
  | .hbm, ⟨24, _⟩ => ⟨S1024x50x1, .f32⟩
  | .hbm, ⟨25, _⟩ => ⟨S_, .f32⟩
  | .hbm, ⟨26, _⟩ => ⟨S1024x50x1, .f32⟩
  | .hbm, ⟨27, _⟩ => ⟨S1024x50x1, .f32⟩
  | .hbm, ⟨28, _⟩ => ⟨S1024x50x1024, .f32⟩
  | .hbm, ⟨29, _⟩ => ⟨S1024x50x1024, .f32⟩
  | .hbm, ⟨30, _⟩ => ⟨S_, .f32⟩
  | .hbm, ⟨31, _⟩ => ⟨S1024x50x1, .f32⟩
  | .hbm, ⟨32, _⟩ => ⟨S1024x50x1, .f32⟩
  | .hbm, ⟨33, _⟩ => ⟨S1024x50x1, .f32⟩
  | .hbm, ⟨34, _⟩ => ⟨S1024x50x1024, .f32⟩
  | .hbm, ⟨35, _⟩ => ⟨S1024x50x1024, .f32⟩
  | .hbm, ⟨36, _⟩ => ⟨S1x1x1024, .f32⟩
  | .hbm, ⟨37, _⟩ => ⟨S1024x50x1024, .f32⟩
  | .hbm, ⟨38, _⟩ => ⟨S1024x50x1024, .f32⟩
  | .hbm, ⟨39, _⟩ => ⟨S1x1x1024, .f32⟩
  | .hbm, ⟨40, _⟩ => ⟨S1024x50x1024, .f32⟩
  | .hbm, ⟨41, _⟩ => ⟨S1024x50x1024, .f32⟩
  | .hbm, ⟨42, _⟩ => ⟨S1024x50x1024, .f32⟩
  | .hbm, ⟨43, _⟩ => ⟨S1024x50x1024, .f32⟩
  | .hbm, ⟨44, _⟩ => ⟨S_, .f32⟩
  | .hbm, ⟨45, _⟩ => ⟨S1024x50x1024, .f32⟩
  | .hbm, ⟨46, _⟩ => ⟨S1024x50x1024, .f32⟩
  | .hbm, ⟨47, _⟩ => ⟨S_, .f32⟩
  | .hbm, ⟨48, _⟩ => ⟨S1024x50x1024, .f32⟩
  | .hbm, ⟨49, _⟩ => ⟨S1024x50x1024, .f32⟩
  | .hbm, ⟨50, _⟩ => ⟨S1024x50x1024, .f32⟩
  | .hbm, ⟨51, _⟩ => ⟨S1024x50x256, .f32⟩
  | .hbm, ⟨52, _⟩ => ⟨S1x1x256, .f32⟩
  | .hbm, ⟨53, _⟩ => ⟨S1024x50x256, .f32⟩
  | .hbm, ⟨54, _⟩ => ⟨S1024x50x256, .f32⟩
  | .hbm, ⟨55, _⟩ => ⟨S_, .f32⟩
  | .hbm, ⟨56, _⟩ => ⟨S1024x50, .f32⟩
  | .hbm, ⟨57, _⟩ => ⟨S1024x50x1, .f32⟩
  | .hbm, ⟨58, _⟩ => ⟨S_, .f32⟩
  | .hbm, ⟨59, _⟩ => ⟨S1024x50x1, .f32⟩
  | .hbm, ⟨60, _⟩ => ⟨S1024x50x1, .f32⟩
  | .hbm, ⟨61, _⟩ => ⟨S1024x50x256, .f32⟩
  | .hbm, ⟨62, _⟩ => ⟨S1024x50x256, .f32⟩
  | .hbm, ⟨63, _⟩ => ⟨S1024x50x256, .f32⟩
  | .hbm, ⟨64, _⟩ => ⟨S_, .f32⟩
  | .hbm, ⟨65, _⟩ => ⟨S1024x50, .f32⟩
  | .hbm, ⟨66, _⟩ => ⟨S1024x50x1, .f32⟩
  | .hbm, ⟨67, _⟩ => ⟨S_, .f32⟩
  | .hbm, ⟨68, _⟩ => ⟨S1024x50x1, .f32⟩
  | .hbm, ⟨69, _⟩ => ⟨S1024x50x1, .f32⟩
  | .hbm, ⟨70, _⟩ => ⟨S1024x50x256, .f32⟩
  | .hbm, ⟨71, _⟩ => ⟨S1024x50x256, .f32⟩
  | .hbm, ⟨72, _⟩ => ⟨S_, .f32⟩
  | .hbm, ⟨73, _⟩ => ⟨S1024x50x1, .f32⟩
  | .hbm, ⟨74, _⟩ => ⟨S1024x50x1, .f32⟩
  | .hbm, ⟨75, _⟩ => ⟨S1024x50x1, .f32⟩
  | .hbm, ⟨76, _⟩ => ⟨S1024x50x256, .f32⟩
  | .hbm, ⟨77, _⟩ => ⟨S1024x50x256, .f32⟩
  | .hbm, ⟨78, _⟩ => ⟨S1x1x256, .f32⟩
  | .hbm, ⟨79, _⟩ => ⟨S1024x50x256, .f32⟩
  | .hbm, ⟨80, _⟩ => ⟨S1024x50x256, .f32⟩
  | .hbm, ⟨81, _⟩ => ⟨S1x1x256, .f32⟩
  | .hbm, ⟨82, _⟩ => ⟨S1024x50x256, .f32⟩
  | .hbm, ⟨83, _⟩ => ⟨S1024x50x256, .f32⟩
  | _, _ => ⟨S1024x50x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Words.lean ====
/-
  The float constants both programs spell as bit patterns, read at the ideal instance as numbers.
-/
module

public import Idealize.ShloMosaic.PureOps.Ideal
public import Idealize.ShloMosaic.PureOps.Ideal.Laws

@[expose] public section

noncomputable section

namespace Cert.Words

open Idealize.ShloMosaic

/-- The epsilon of both layer norms: the float nearest `1e-5`. -/
def eps : ℝ := 10995116 * (2 : ℝ) ^ (-40 : ℤ)

/-- It is positive. -/
theorem eps_pos : 0 < eps := by unfold eps; positivity

/-- The pattern of `1024.0`. -/
theorem w1024 : (FloatOps.ofBits (F := Ideal) .f32 0x44800000#32 : EReal) = (((1024 : ℕ) : ℝ) : EReal) := by
  show Ideal.ofBits .f32 _ = _
  simp [Ideal.ofBits, Ideal.ieee, -EReal.coe_mul]; norm_num

/-- The pattern of `256.0`. -/
theorem w256 : (FloatOps.ofBits (F := Ideal) .f32 0x43800000#32 : EReal) = (((256 : ℕ) : ℝ) : EReal) := by
  show Ideal.ofBits .f32 _ = _
  simp [Ideal.ofBits, Ideal.ieee, -EReal.coe_mul]; norm_num

/-- The pattern of `1e-5`. -/
theorem wEps : (FloatOps.ofBits (F := Ideal) .f32 0x3727C5AC#32 : EReal) = (eps : EReal) := by
  show Ideal.ofBits .f32 _ = _
  simp [Ideal.ofBits, Ideal.ieee, -EReal.coe_mul, eps]

/-- The pattern of `0.5`. -/
theorem wHalf : (FloatOps.ofBits (F := Ideal) .f32 0x3F000000#32 : EReal) = ((1 / 2 : ℝ) : EReal) := by
  show Ideal.ofBits .f32 _ = _
  simp [Ideal.ofBits, Ideal.ieee, -EReal.coe_mul]; norm_num

/-- The pattern of `1.0`. -/
theorem wOne : (FloatOps.ofBits (F := Ideal) .f32 0x3F800000#32 : EReal) = ((1 : ℝ) : EReal) := by
  show Ideal.ofBits .f32 _ = _
  simp [Ideal.ofBits, Ideal.ieee, -EReal.coe_mul]; norm_num

/-- The pattern of zero. -/
theorem wZero : (FloatOps.ofBits (F := Ideal) .f32 0x00000000#32 : EReal) = 0 := Ideal.ofBits_zero_f32

/-- The pattern of plus infinity. -/
theorem wInf : (FloatOps.ofBits (F := Ideal) .f32 0x7F800000#32 : EReal) = ⊤ := by
  show Ideal.ofBits .f32 _ = _
  simp [Ideal.ofBits, Ideal.ieee]

end Cert.Words

end
-- ==== Proof.Pre.lean ====
/-
  What the precondition says of a device's arguments: every input is a real number, every bias is zero, every gain is
  one. The printed precondition compares words; at the ideal instance a comparison that reads true is the relation.
-/
module

public import proofs.«01_k».proof.Defs
public import proofs.«01_k».proof.Proof.Words

@[expose] public section

noncomputable section

namespace Cert.Pre

open Cert.Pre_plain_parameters Cert.Words
open Idealize.ShloMosaic

/-- The precondition's own side conditions. -/
theorem facts : Cert.Pre_plain_parameters.Facts := ⟨by decide, by decide, by decide⟩

/-- A truth value's word is one only if it is true. -/
theorem of_ofBool {p : Prop} [Decidable p] (h : BitVec.ofBool (decide p) = 1#1) : p := by
  by_cases hp : p
  · exact hp
  · rw [decide_eq_false hp] at h; exact absurd h (by decide)

/-- A value below infinity in size is a real number. -/
theorem real_of_abs_lt {a : EReal} (h : max a (-a) < ⊤) : ∃ r : ℝ, a = r := by
  induction a with
  | bot => simp at h
  | top => simp at h
  | coe r => exact ⟨r, rfl⟩

/-- The precondition read: inputs real, biases zero, gains one. -/
theorem read [Cert.Pre_plain_parameters.Facts] (x : FVec Ideal S1024x50x768 .f32) (w1 : FVec Ideal S768x1024 .f32) (b1 g1 be1 : FVec Ideal S1024 .f32)
    (w2 : FVec Ideal S1024x256 .f32) (b2 g2 be2 : FVec Ideal S256 .f32)
    (h : (fn (F := Ideal) x w1 b1 g1 be1 w2 b2 g2 be2).1 = (fun _ => 1#1)
      ∧ (fn (F := Ideal) x w1 b1 g1 be1 w2 b2 g2 be2).2.1 = (fun _ => 1#1)
      ∧ (fn (F := Ideal) x w1 b1 g1 be1 w2 b2 g2 be2).2.2.1 = (fun _ => 1#1)
      ∧ (fn (F := Ideal) x w1 b1 g1 be1 w2 b2 g2 be2).2.2.2.1 = (fun _ => 1#1)
      ∧ (fn (F := Ideal) x w1 b1 g1 be1 w2 b2 g2 be2).2.2.2.2.1 = (fun _ => 1#1)
      ∧ (fn (F := Ideal) x w1 b1 g1 be1 w2 b2 g2 be2).2.2.2.2.2.1 = (fun _ => 1#1)
      ∧ (fn (F := Ideal) x w1 b1 g1 be1 w2 b2 g2 be2).2.2.2.2.2.2 = (fun _ => 1#1)) :
    (∀ i, ∃ r : ℝ, x i = r) ∧ (∀ i, b1 i = 0) ∧ (∀ i, g1 i = ((1 : ℝ) : EReal)) ∧ (∀ i, be1 i = 0)
      ∧ (∀ i, b2 i = 0) ∧ (∀ i, g2 i = ((1 : ℝ) : EReal)) ∧ (∀ i, be2 i = 0) := by
  obtain ⟨h0, h1, h2, h3, h4, h5, h6⟩ := h
  refine ⟨fun i => ?_, fun i => ?_, fun i => ?_, fun i => ?_, fun i => ?_, fun i => ?_, fun i => ?_⟩
  · have e : max (x i) (-(x i)) < FloatOps.ofBits (F := Ideal) .f32 0x7F800000#32 := of_ofBool (congrFun h0 i)
    rw [wInf] at e
    exact real_of_abs_lt e
  · exact (of_ofBool (congrFun h1 i) : b1 i = FloatOps.ofBits (F := Ideal) .f32 0x00000000#32).trans wZero
  · exact (of_ofBool (congrFun h2 i) : g1 i = FloatOps.ofBits (F := Ideal) .f32 0x3F800000#32).trans wOne
  · exact (of_ofBool (congrFun h3 i) : be1 i = FloatOps.ofBits (F := Ideal) .f32 0x00000000#32).trans wZero
  · exact (of_ofBool (congrFun h4 i) : b2 i = FloatOps.ofBits (F := Ideal) .f32 0x00000000#32).trans wZero
  · exact (of_ofBool (congrFun h5 i) : g2 i = FloatOps.ofBits (F := Ideal) .f32 0x3F800000#32).trans wOne
  · exact (of_ofBool (congrFun h6 i) : be2 i = FloatOps.ofBits (F := Ideal) .f32 0x00000000#32).trans wZero

end Cert.Pre

end
-- ==== Proof.Norm.lean ====
/-
  The mathematics of one layer normalisation on the extended reals, free of any program: the normalisation of a row
  `x · W` computed the reference's way (subtract the row's mean, divide by the root of the variance plus epsilon) is
  the same REAL number as computed the kernel's way (subtract the means from the WEIGHTS, multiply by the reciprocal
  root), for a row `x` of real numbers and ANY extended-real weights, infinite ones included.
-/
module

public import Idealize.ShloMosaic.PureOps.Ideal
public import Idealize.ShloMosaic.PureOps.Ideal.Laws

@[expose] public section

noncomputable section

namespace Cert.NormMath

open Idealize.ShloMosaic

/-! ## Infinite values -/

/-- An extended real that is one of the two infinities. -/
def Infinite (a : EReal) : Prop := a = ⊤ ∨ a = ⊥

/-- A value is real or infinite. -/
theorem real_or_infinite (a : EReal) : (∃ r : ℝ, a = r) ∨ Infinite a := by
  induction a with
  | bot => exact .inr (.inr rfl)
  | top => exact .inr (.inl rfl)
  | coe r => exact .inl ⟨r, rfl⟩

/-- A sum with an infinite first term is infinite. -/
theorem Infinite.add {a : EReal} (h : Infinite a) (b : EReal) : Infinite (a + b) := by
  rcases h with rfl | rfl
  · induction b with
    | bot => exact .inr rfl
    | top => exact .inl rfl
    | coe r => exact .inl (EReal.top_add_coe r)
  · exact .inr (EReal.bot_add b)

/-- The negative of an infinity is an infinity. -/
theorem Infinite.neg {a : EReal} (h : Infinite a) : Infinite (-a) := by
  rcases h with rfl | rfl
  · exact .inr rfl
  · exact .inl rfl

/-- Taking an infinity away leaves an infinity. -/
theorem Infinite.sub_right {b : EReal} (h : Infinite b) (a : EReal) : Infinite (a - b) := by
  rw [sub_eq_add_neg, add_comm]
  exact h.neg.add a

/-- A nonzero real times an infinity is infinite. -/
theorem Infinite.real_mul {a : EReal} (h : Infinite a) {r : ℝ} (hr : r ≠ 0) : Infinite ((r : EReal) * a) := by
  rcases lt_or_gt_of_ne hr with hr | hr <;> rcases h with rfl | rfl
  · exact .inr (EReal.coe_mul_top_of_neg hr)
  · exact .inl (EReal.coe_mul_bot_of_neg hr)
  · exact .inl (EReal.coe_mul_top_of_pos hr)
  · exact .inr (EReal.coe_mul_bot_of_pos hr)

/-- An infinity squared is plus infinity. -/
theorem Infinite.mul_self {a : EReal} (h : Infinite a) : a * a = ⊤ := by
  rcases h with rfl | rfl <;> rfl

/-- A finite sum with an infinite term is infinite. -/
theorem Infinite.sum {ι : Type} [Fintype ι] [DecidableEq ι] {f : ι → EReal} (i : ι) (h : Infinite (f i)) :
    Infinite (∑ j, f j) := by
  rw [← Finset.add_sum_erase _ _ (Finset.mem_univ i)]
  exact h.add _

/-- A nonempty sum of plus infinities is plus infinity. -/
theorem sum_top {n : ℕ} (hn : 0 < n) : (∑ _j : Fin n, (⊤ : EReal)) = ⊤ := by
  obtain ⟨k, rfl⟩ : ∃ k, n = k + 1 := ⟨n - 1, by omega⟩
  clear hn
  induction k with
  | zero => simp
  | succ k ih => rw [Fin.sum_univ_castSucc, ih]; rfl

/-! ## Quotients and reals -/

/-- A quotient by a nonzero real is the product by its reciprocal. -/
theorem div_real (a : EReal) {r : ℝ} (hr : r ≠ 0) : Ideal.div a r = a * ((r⁻¹ : ℝ) : EReal) := by
  rw [Ideal.div, if_neg (by exact_mod_cast hr), EReal.coe_inv]

/-- A real divided by a nonzero real. -/
theorem coe_div (a : ℝ) {r : ℝ} (hr : r ≠ 0) : Ideal.div (a : EReal) r = ((a / r : ℝ) : EReal) := by
  rw [div_real _ hr, ← EReal.coe_mul, div_eq_mul_inv]

/-- An infinity divided by a nonzero real is infinite. -/
theorem Infinite.div_real {a : EReal} (h : Infinite a) {r : ℝ} (hr : r ≠ 0) : Infinite (Ideal.div a r) := by
  rw [NormMath.div_real _ hr, mul_comm]
  exact h.real_mul (inv_ne_zero hr)

/-- Plus infinity divided by a positive real is plus infinity. -/
theorem top_div {r : ℝ} (hr : 0 < r) : Ideal.div ⊤ r = ⊤ := by
  rw [NormMath.div_real _ hr.ne']
  exact EReal.top_mul_coe_of_pos (inv_pos.mpr hr)

/-- A sum of reals, read in the extended reals, is real. -/
theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The root of a positive real is the real root. -/
theorem sqrt_coe {r : ℝ} (hr : 0 < r) : Ideal.sqrt (r : EReal) = (Real.sqrt r : EReal) :=
  if_neg hr.le.not_gt

/-- The reciprocal root of a positive real is the real one. -/
theorem rsqrt_coe {r : ℝ} (hr : 0 < r) : Ideal.rsqrt (r : EReal) = ((Real.sqrt r)⁻¹ : ℝ) :=
  (if_neg hr.le.not_gt).trans (if_neg hr.ne')

/-! ## The two normalisations -/

variable {K n : ℕ}

/-- The mean of a row of `n` values, the count `N` given as a value. -/
def mean (N : EReal) (h : Fin n → EReal) : EReal := Ideal.div (∑ i, h i) N

/-- One row times a matrix: entry `j` of `x · W`. -/
def rowMul (x : Fin K → EReal) (W : Fin K → Fin n → EReal) (j : Fin n) : EReal := ∑ k, x k * W k j

/-- A weight matrix with every row's mean taken away: what the kernel's host code makes of the weights. -/
def centred (N : EReal) (W : Fin K → Fin n → EReal) (k : Fin K) (j : Fin n) : EReal := W k j - mean N (W k)

/-- The reference's normalisation of a row: the mean taken away, then divided by the root of the mean square plus `eps`. -/
def refNorm (N eps : EReal) (h : Fin n → EReal) (j : Fin n) : EReal :=
  Ideal.div (h j - mean N h) (Ideal.sqrt (mean N (fun i => (h i - mean N h) * (h i - mean N h)) + eps))

/-- The kernel's scale of a row already centred: the reciprocal root of the mean square plus `eps`. -/
def kerScale (N eps : EReal) (g : Fin n → EReal) : EReal := Ideal.rsqrt (mean N (fun i => g i * g i) + eps)

/-- The normalised row as real numbers, of real entries `h`. -/
def realNorm (e : ℝ) (h : Fin n → ℝ) (j : Fin n) : ℝ :=
  (h j - (∑ i, h i) / n) / Real.sqrt ((∑ i, (h i - (∑ i, h i) / n) * (h i - (∑ i, h i) / n)) / n + e)

/-- A mean square plus a positive real is positive. -/
theorem meanSq_pos {e : ℝ} (he : 0 < e) (c : Fin n → ℝ) : 0 < (∑ i, c i * c i) / (n : ℝ) + e :=
  add_pos_of_nonneg_of_pos (div_nonneg (Finset.sum_nonneg fun i _ => mul_self_nonneg _) (Nat.cast_nonneg n)) he

/-- The mean of reals is the real mean. -/
theorem mean_coe (hn : 0 < n) (h : Fin n → ℝ) : mean ((n : ℝ) : EReal) (fun i => (h i : EReal)) = (((∑ i, h i) / n : ℝ) : EReal) := by
  unfold mean
  rw [coe_sum, coe_div _ (by exact_mod_cast hn.ne')]

/-- The mean square of reals plus a real. -/
theorem meanSq_coe (hn : 0 < n) (e : ℝ) (c : Fin n → ℝ) :
    mean ((n : ℝ) : EReal) (fun i => (c i : EReal) * (c i : EReal)) + (e : EReal) = (((∑ i, c i * c i) / n + e : ℝ) : EReal) := by
  have : (fun i => (c i : EReal) * (c i : EReal)) = fun i => ((c i * c i : ℝ) : EReal) := funext fun i => (EReal.coe_mul _ _).symm
  rw [this, mean_coe hn, EReal.coe_add]

/-- Of real entries the reference's normalisation is the real one. -/
theorem refNorm_coe (hn : 0 < n) {e : ℝ} (he : 0 < e) (h : Fin n → ℝ) (j : Fin n) :
    refNorm ((n : ℝ) : EReal) e (fun i => (h i : EReal)) j = (realNorm e h j : EReal) := by
  have hp := meanSq_pos he (fun i => h i - (∑ i, h i) / n)
  unfold refNorm
  rw [mean_coe hn]
  simp only [← EReal.coe_sub]
  rw [meanSq_coe hn e (fun i => h i - (∑ i, h i) / n)]
  rw [sqrt_coe hp, coe_div _ (Real.sqrt_pos.mpr hp).ne']
  rfl

/-- Of real entries the kernel's scale is the real reciprocal root. -/
theorem kerScale_coe (hn : 0 < n) {e : ℝ} (he : 0 < e) (c : Fin n → ℝ) :
    kerScale ((n : ℝ) : EReal) e (fun i => (c i : EReal)) = (((Real.sqrt ((∑ i, c i * c i) / n + e))⁻¹ : ℝ) : EReal) := by
  have hp := meanSq_pos he c
  unfold kerScale
  rw [meanSq_coe hn e c, rsqrt_coe hp]

/-- A row whose entries are all infinite is normalised to zero by the reference: each entry less the mean is infinite,
    and it is divided by plus infinity. -/
theorem refNorm_infinite (hn : 0 < n) {e : ℝ} (h : Fin n → EReal) (hm : Infinite (mean ((n : ℝ) : EReal) h)) (j : Fin n) :
    refNorm ((n : ℝ) : EReal) e h j = 0 := by
  have hn' : (0 : ℝ) < n := by exact_mod_cast hn
  unfold refNorm
  have hs : (fun i => (h i - mean ((n : ℝ) : EReal) h) * (h i - mean ((n : ℝ) : EReal) h)) = fun _ => (⊤ : EReal) :=
    funext fun i => (hm.sub_right (h i)).mul_self
  have hv : mean ((n : ℝ) : EReal) (fun i => (h i - mean ((n : ℝ) : EReal) h) * (h i - mean ((n : ℝ) : EReal) h)) = ⊤ := by
    rw [hs]; unfold mean; rw [sum_top hn, top_div hn']
  rw [hv, EReal.top_add_coe]
  show Ideal.div _ ⊤ = 0
  rw [Ideal.div, if_neg (by simp)]
  simp

/-- A row whose entries are all infinite has scale zero in the kernel. -/
theorem kerScale_infinite (hn : 0 < n) {e : ℝ} (g : Fin n → EReal) (hg : ∀ j, Infinite (g j)) :
    kerScale ((n : ℝ) : EReal) e g = 0 := by
  have hn' : (0 : ℝ) < n := by exact_mod_cast hn
  unfold kerScale
  have hs : (fun i => g i * g i) = fun _ => (⊤ : EReal) := funext fun i => (hg i).mul_self
  rw [hs]; unfold mean
  rw [sum_top hn, top_div hn', EReal.top_add_coe]
  rfl

/-- When every weight row that meets a nonzero entry of `x` is real, the weights may be taken real: the other rows
    count for nothing, a zero times anything being zero. -/
theorem rowMul_real (x : Fin K → ℝ) (W W' : Fin K → Fin n → EReal) (w : Fin K → Fin n → ℝ)
    (hw : ∀ k, x k ≠ 0 → ∀ j, W' k j = w k j) (j : Fin n) :
    rowMul (fun k => (x k : EReal)) W' j = ((∑ k, x k * w k j : ℝ) : EReal) := by
  unfold rowMul
  rw [← coe_sum]
  refine Finset.sum_congr rfl fun k _ => ?_
  by_cases hx : x k = 0
  · simp [hx]
  · rw [hw k hx j, EReal.coe_mul]

/-- THE NORMALISATIONS AGREE. For a real row `x`, any weights `W` into `n` columns and a positive real epsilon there is
    a REAL row `R` which the reference's normalisation of `x · W` equals and which the kernel's, of `x` times the
    centred weights, equals as well. -/
theorem norm_agree (hn : 0 < n) {e : ℝ} (he : 0 < e) (x : Fin K → ℝ) (W : Fin K → Fin n → EReal) :
    ∃ R : Fin n → ℝ, ∃ s : EReal, s = kerScale ((n : ℝ) : EReal) e (rowMul (fun k => (x k : EReal)) (centred ((n : ℝ) : EReal) W)) ∧
      (∀ j, refNorm ((n : ℝ) : EReal) e (rowMul (fun k => (x k : EReal)) W) j = R j) ∧
      (∀ j, rowMul (fun k => (x k : EReal)) (centred ((n : ℝ) : EReal) W) j * s = R j) ∧
      (∀ j (a : ℝ), rowMul (fun k => (x k : EReal)) (centred ((n : ℝ) : EReal) W) j * ((a : EReal) * s) = ((a * R j : ℝ) : EReal)) := by
  have hn' : (n : ℝ) ≠ 0 := by exact_mod_cast hn.ne'
  by_cases hreal : ∀ k, x k ≠ 0 → ∀ j, ∃ r : ℝ, W k j = r
  · -- every row that counts is real
    choose! w hw using hreal
    have hW : ∀ j, rowMul (fun k => (x k : EReal)) W j = ((∑ k, x k * w k j : ℝ) : EReal) :=
      rowMul_real x W W w hw
    have hC : ∀ k, x k ≠ 0 → ∀ j, centred ((n : ℝ) : EReal) W k j = ((w k j - (∑ i, w k i) / n : ℝ) : EReal) := by
      intro k hk j
      unfold centred
      have : W k = fun i => (w k i : EReal) := funext fun i => hw k hk i
      rw [this, mean_coe hn, EReal.coe_sub]
    have hG : ∀ j, rowMul (fun k => (x k : EReal)) (centred ((n : ℝ) : EReal) W) j
        = (((∑ k, x k * w k j) - (∑ i, ∑ k, x k * w k i) / n : ℝ) : EReal) := by
      intro j
      rw [rowMul_real x W _ (fun k j => w k j - (∑ i, w k i) / n) hC]
      congr 1
      rw [Finset.sum_comm, Finset.sum_div, ← Finset.sum_sub_distrib]
      refine Finset.sum_congr rfl fun k _ => ?_
      rw [← Finset.mul_sum]; ring
    have hp := meanSq_pos he (fun j => (∑ k, x k * w k j) - (∑ i, ∑ k, x k * w k i) / n)
    refine ⟨realNorm e (fun j => ∑ k, x k * w k j), _, rfl, fun j => ?_, fun j => ?_, fun j a => ?_⟩
    · rw [funext hW]; exact refNorm_coe hn he _ j
    · rw [funext hG, kerScale_coe hn he, ← EReal.coe_mul]; rfl
    · rw [funext hG, kerScale_coe hn he, ← EReal.coe_mul, ← EReal.coe_mul]
      congr 1
      unfold realNorm
      rw [div_eq_mul_inv]; ring
  · -- some row that counts has an infinite entry: both normalisations are zero
    push Not at hreal
    obtain ⟨k, hk, j₀, hj₀⟩ := hreal
    have hinf : Infinite (W k j₀) := (real_or_infinite _).resolve_left (fun ⟨r, hr⟩ => hj₀ r hr)
    have h1 : Infinite (rowMul (fun k => (x k : EReal)) W j₀) := Infinite.sum k (hinf.real_mul hk)
    have hm : Infinite (mean ((n : ℝ) : EReal) (rowMul (fun k => (x k : EReal)) W)) :=
      (Infinite.sum j₀ h1).div_real hn'
    have hmk : Infinite (mean ((n : ℝ) : EReal) (W k)) := (Infinite.sum j₀ hinf).div_real hn'
    have hg : ∀ j, Infinite (rowMul (fun k => (x k : EReal)) (centred ((n : ℝ) : EReal) W) j) := fun j =>
      Infinite.sum k ((hmk.sub_right (W k j)).real_mul hk)
    refine ⟨fun _ => 0, _, rfl, fun j => ?_, fun j => ?_, fun j a => ?_⟩
    · exact refNorm_infinite hn _ hm j
    · rw [kerScale_infinite hn _ hg]; simp
    · rw [kerScale_infinite hn _ hg]; simp

/-! ## The activation -/

/-- THE ACTIVATIONS AGREE: with `a` half of a real `r`, the kernel's `a + a · tanh a` is the reference's
    `r · (1 / (1 + exp (-r)))`, and it is real. -/
theorem swish_agree (r : ℝ) :
    (((1 / 2 * r : ℝ) : EReal) + ((1 / 2 * r : ℝ) : EReal) * Ideal.tanh ((1 / 2 * r : ℝ) : EReal))
      = ((r * (1 / (1 + Real.exp (-r))) : ℝ) : EReal) ∧
    ((r : EReal) * Ideal.div ((1 : ℝ) : EReal) (((1 : ℝ) : EReal) + Ideal.exp (-(r : EReal))))
      = ((r * (1 / (1 + Real.exp (-r))) : ℝ) : EReal) := by
  have hpos : 0 < 1 + Real.exp (-r) := by positivity
  constructor
  · show (_ + _ * ((Real.tanh (1 / 2 * r) : ℝ) : EReal)) = _
    rw [← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    rw [h1]
    have p1 := Real.exp_pos (1 / 2 * r)
    have p2 := Real.exp_pos (-(1 / 2 * r))
    generalize Real.exp (1 / 2 * r) = u at *
    generalize Real.exp (-(1 / 2 * r)) = v at *
    have hu : u = v⁻¹ := eq_inv_of_mul_eq_one_left h2
    subst hu
    field_simp
    ring
  · rw [← EReal.coe_neg]
    show (_ * Ideal.div _ (_ + ((Real.exp (-r) : ℝ) : EReal))) = _
    rw [← EReal.coe_add, coe_div _ hpos.ne', ← EReal.coe_mul]

end Cert.NormMath

end
-- ==== Proof.RefValue.lean ====
/-
  The reference's result at an index, for biases zero and gains one: the layer norm of the linear map of the swish of
  the layer norm of the linear map of the inputs, in the vocabulary of the normalisation's mathematics (Norm.lean).
  The generated readings of the reference's operations give each step; this file composes them.
-/
module

public import proofs.«01_k».proof.Proof.Gen.ReferenceIdeal.Read
public import proofs.«01_k».proof.Proof.Norm
public import proofs.«01_k».proof.Proof.Words

@[expose] public section

noncomputable section

namespace Cert.RefValue

open Cert.ReferenceIdeal Cert.ReferenceIdeal.Read Cert.NormMath Cert.Words
open Idealize.ShloMosaic Idealize.ShloMosaic.ValueIdx

/-- The inputs' array, -/
abbrev XArr := (⟨S1024x50x768, .f32⟩ : BufTy).Contents (Elt Ideal)
/-- the first weights', -/
abbrev W1Arr := (⟨S768x1024, .f32⟩ : BufTy).Contents (Elt Ideal)
/-- a vector along the hidden axis, -/
abbrev HArr := (⟨S1024, .f32⟩ : BufTy).Contents (Elt Ideal)
/-- the second weights', -/
abbrev W2Arr := (⟨S1024x256, .f32⟩ : BufTy).Contents (Elt Ideal)
/-- and a vector along the output axis. -/
abbrev OArr := (⟨S256, .f32⟩ : BufTy).Contents (Elt Ideal)

/-- The inputs of row `(b, n)`. -/
def xRow (x : XArr) (b : Fin 1024) (n : Fin 50) (k : Fin 768) : EReal := x (ix3 b n k)
/-- The first weights as a function of row and column. -/
def w1Mat (w : W1Arr) (k : Fin 768) (j : Fin 1024) : EReal := w (ix2 k j)
/-- The second weights as a function of row and column. -/
def w2Mat (w : W2Arr) (k : Fin 1024) (j : Fin 256) : EReal := w (ix2 k j)

/-- The reference's swish of a value. -/
def refSwish (r : EReal) : EReal := r * Ideal.div ((1 : ℝ) : EReal) (((1 : ℝ) : EReal) + Ideal.exp (-r))

/-- The reference's hidden activation of row `(b, n)`: swish of the normalised linear map. -/
def refHidden (x : XArr) (w1 : W1Arr) (b : Fin 1024) (n : Fin 50) (k : Fin 1024) : EReal :=
  refSwish (refNorm (((1024 : ℕ) : ℝ) : EReal) eps (rowMul (xRow x b n) (w1Mat w1)) k)

/-- The reference's result at `(b, n, j)`. -/
def refOut (x : XArr) (w1 : W1Arr) (w2 : W2Arr) (b : Fin 1024) (n : Fin 50) (j : Fin 256) : EReal :=
  refNorm (((256 : ℕ) : ℝ) : EReal) eps (rowMul (refHidden x w1 b n) (w2Mat w2)) j

section
variable (x : XArr) (w1 : W1Arr) (b1 g1 be1 : HArr) (w2 : W2Arr) (b2 g2 be2 : OArr)

/-- The first linear map, its bias zero. -/
theorem v3_at (hb1 : ∀ i, b1 i = 0) (b : Fin 1024) (n : Fin 50) (j : Fin 1024) :
    val_main_v3 (F := Ideal) x w1 b1 (ix3 b n j) = rowMul (xRow x b n) (w1Mat w1) j := by
  rw [val_main_v3_apply, val_main_v2_apply, val_main_v1_apply, hb1, val_main_v0_apply]
  show (_ + 0 : EReal) = _
  rw [add_zero]
  unfold rowMul
  refine Finset.sum_congr rfl fun k _ => ?_
  rw [show lidx_main_v0 (ix3 b n j) k = ix3 b n k from funext fun a => by match a with | ⟨0, _⟩ => rfl | ⟨1, _⟩ => rfl | ⟨2, _⟩ => rfl,
    show ridx_main_v0 (ix3 b n j) k = ix2 k j from funext fun a => by match a with | ⟨0, _⟩ => rfl | ⟨1, _⟩ => rfl]
  rfl

/-- The mean over the hidden axis. -/
theorem v7_at (hb1 : ∀ i, b1 i = 0) (b : Fin 1024) (n : Fin 50) (z : Fin 1) :
    val_main_v7 (F := Ideal) x w1 b1 (ix3 b n z) = mean (((1024 : ℕ) : ℝ) : EReal) (rowMul (xRow x b n) (w1Mat w1)) := by
  rw [val_main_v7_apply, val_main_v6_apply, val_main_cst_0_apply, w1024, val_main_v5_apply,
    show idx_main_v5 (ix3 b n z) = ix2 b n from funext fun a => by match a with | ⟨0, _⟩ => rfl | ⟨1, _⟩ => rfl,
    val_main_v4_apply, val_main_cst_apply, wZero, zero_add]
  unfold mean
  show Ideal.div _ _ = _
  refine congrArg (Ideal.div · _) (Finset.sum_congr rfl fun k _ => ?_)
  rw [show idx_main_v4 (ix2 b n) k = ix3 b n k from funext fun a => by match a with | ⟨0, _⟩ => rfl | ⟨1, _⟩ => rfl | ⟨2, _⟩ => rfl,
    v3_at x w1 b1 hb1]

/-- The mean square of the centred hidden row. -/
theorem v14_at (hb1 : ∀ i, b1 i = 0) (b : Fin 1024) (n : Fin 50) (z : Fin 1) :
    val_main_v14 (F := Ideal) x w1 b1 (ix3 b n z) = mean (((1024 : ℕ) : ℝ) : EReal) (fun i =>
      (rowMul (xRow x b n) (w1Mat w1) i - mean (((1024 : ℕ) : ℝ) : EReal) (rowMul (xRow x b n) (w1Mat w1)))
      * (rowMul (xRow x b n) (w1Mat w1) i - mean (((1024 : ℕ) : ℝ) : EReal) (rowMul (xRow x b n) (w1Mat w1)))) := by
  rw [val_main_v14_apply, val_main_v13_apply, val_main_cst_2_apply, w1024, val_main_v12_apply,
    show idx_main_v12 (ix3 b n z) = ix2 b n from funext fun a => by match a with | ⟨0, _⟩ => rfl | ⟨1, _⟩ => rfl,
    val_main_v11_apply, val_main_cst_1_apply, wZero, zero_add]
  conv_rhs => unfold mean
  show Ideal.div _ _ = _
  refine congrArg (Ideal.div · _) (Finset.sum_congr rfl fun k _ => ?_)
  rw [show idx_main_v11 (ix2 b n) k = ix3 b n k from funext fun a => by match a with | ⟨0, _⟩ => rfl | ⟨1, _⟩ => rfl | ⟨2, _⟩ => rfl,
    val_main_v10_apply, val_main_v9_apply, v3_at x w1 b1 hb1, val_main_v8_apply,
    show idx_main_v8 (ix3 b n k) = ix3 b n 0 from funext fun a => by match a with | ⟨0, _⟩ => rfl | ⟨1, _⟩ => rfl | ⟨2, _⟩ => rfl,
    v7_at x w1 b1 hb1]
  rfl

/-- The first layer norm, its gain one and shift zero. -/
theorem v27_at (hb1 : ∀ i, b1 i = 0) (hg1 : ∀ i, g1 i = ((1 : ℝ) : EReal)) (hbe1 : ∀ i, be1 i = 0) (b : Fin 1024) (n : Fin 50) (j : Fin 1024) :
    val_main_v27 (F := Ideal) x w1 b1 g1 be1 (ix3 b n j)
      = refNorm (((1024 : ℕ) : ℝ) : EReal) eps (rowMul (xRow x b n) (w1Mat w1)) j := by
  rw [val_main_v27_apply, val_main_v26_apply, val_main_v25_apply, hbe1, val_main_v24_apply, val_main_v23_apply,
    val_main_v22_apply, hg1, val_main_v21_apply, val_main_v20_apply, val_main_v19_apply, val_main_v18_apply,
    val_main_v17_apply, val_main_cst_3_apply, wEps, val_main_v16_apply, val_main_v15_apply,
    show idx_main_v15 (ix3 b n j) = ix3 b n 0 from funext fun a => by match a with | ⟨0, _⟩ => rfl | ⟨1, _⟩ => rfl | ⟨2, _⟩ => rfl,
    show idx_main_v20 (ix3 b n j) = ix3 b n 0 from funext fun a => by match a with | ⟨0, _⟩ => rfl | ⟨1, _⟩ => rfl | ⟨2, _⟩ => rfl,
    v7_at x w1 b1 hb1, v14_at x w1 b1 hb1, v3_at x w1 b1 hb1]
  show (_ * ((1 : ℝ) : EReal) + 0 : EReal) = _
  rw [add_zero, EReal.coe_one, mul_one]
  rfl

/-- The hidden activation. -/
theorem v34_at (hb1 : ∀ i, b1 i = 0) (hg1 : ∀ i, g1 i = ((1 : ℝ) : EReal)) (hbe1 : ∀ i, be1 i = 0) (b : Fin 1024) (n : Fin 50) (j : Fin 1024) :
    val_main_v34 (F := Ideal) x w1 b1 g1 be1 (ix3 b n j) = refHidden x w1 b n j := by
  rw [val_main_v34_apply, val_main_v33_apply, val_main_v32_apply, val_main_cst_5_apply, wOne, val_main_v31_apply,
    val_main_v30_apply, val_main_cst_4_apply, wOne, val_main_v29_apply, val_main_v28_apply,
    v27_at x w1 b1 g1 be1 hb1 hg1 hbe1]
  rfl

/-- The second linear map, its bias zero. -/
theorem v38_at (hb1 : ∀ i, b1 i = 0) (hg1 : ∀ i, g1 i = ((1 : ℝ) : EReal)) (hbe1 : ∀ i, be1 i = 0) (hb2 : ∀ i, b2 i = 0)
    (b : Fin 1024) (n : Fin 50) (j : Fin 256) :
    val_main_v38 (F := Ideal) x w1 b1 g1 be1 w2 b2 (ix3 b n j) = rowMul (refHidden x w1 b n) (w2Mat w2) j := by
  rw [val_main_v38_apply, val_main_v37_apply, val_main_v36_apply, hb2, val_main_v35_apply]
  show (_ + 0 : EReal) = _
  rw [add_zero]
  unfold rowMul
  refine Finset.sum_congr rfl fun k _ => ?_
  rw [show lidx_main_v35 (ix3 b n j) k = ix3 b n k from funext fun a => by match a with | ⟨0, _⟩ => rfl | ⟨1, _⟩ => rfl | ⟨2, _⟩ => rfl,
    show ridx_main_v35 (ix3 b n j) k = ix2 k j from funext fun a => by match a with | ⟨0, _⟩ => rfl | ⟨1, _⟩ => rfl,
    v34_at x w1 b1 g1 be1 hb1 hg1 hbe1]
  rfl

/-- The mean over the output axis. -/
theorem v42_at (hb1 : ∀ i, b1 i = 0) (hg1 : ∀ i, g1 i = ((1 : ℝ) : EReal)) (hbe1 : ∀ i, be1 i = 0) (hb2 : ∀ i, b2 i = 0)
    (b : Fin 1024) (n : Fin 50) (z : Fin 1) :
    val_main_v42 (F := Ideal) x w1 b1 g1 be1 w2 b2 (ix3 b n z)
      = mean (((256 : ℕ) : ℝ) : EReal) (rowMul (refHidden x w1 b n) (w2Mat w2)) := by
  rw [val_main_v42_apply, val_main_v41_apply, val_main_cst_7_apply, w256, val_main_v40_apply,
    show idx_main_v40 (ix3 b n z) = ix2 b n from funext fun a => by match a with | ⟨0, _⟩ => rfl | ⟨1, _⟩ => rfl,
    val_main_v39_apply, val_main_cst_6_apply, wZero, zero_add]
  unfold mean
  show Ideal.div _ _ = _
  refine congrArg (Ideal.div · _) (Finset.sum_congr rfl fun k _ => ?_)
  rw [show idx_main_v39 (ix2 b n) k = ix3 b n k from funext fun a => by match a with | ⟨0, _⟩ => rfl | ⟨1, _⟩ => rfl | ⟨2, _⟩ => rfl,
    v38_at x w1 b1 g1 be1 w2 b2 hb1 hg1 hbe1 hb2]

/-- The mean square of the centred output row. -/
theorem v49_at (hb1 : ∀ i, b1 i = 0) (hg1 : ∀ i, g1 i = ((1 : ℝ) : EReal)) (hbe1 : ∀ i, be1 i = 0) (hb2 : ∀ i, b2 i = 0)
    (b : Fin 1024) (n : Fin 50) (z : Fin 1) :
    val_main_v49 (F := Ideal) x w1 b1 g1 be1 w2 b2 (ix3 b n z) = mean (((256 : ℕ) : ℝ) : EReal) (fun i =>
      (rowMul (refHidden x w1 b n) (w2Mat w2) i - mean (((256 : ℕ) : ℝ) : EReal) (rowMul (refHidden x w1 b n) (w2Mat w2)))
      * (rowMul (refHidden x w1 b n) (w2Mat w2) i - mean (((256 : ℕ) : ℝ) : EReal) (rowMul (refHidden x w1 b n) (w2Mat w2)))) := by
  rw [val_main_v49_apply, val_main_v48_apply, val_main_cst_9_apply, w256, val_main_v47_apply,
    show idx_main_v47 (ix3 b n z) = ix2 b n from funext fun a => by match a with | ⟨0, _⟩ => rfl | ⟨1, _⟩ => rfl,
    val_main_v46_apply, val_main_cst_8_apply, wZero, zero_add]
  conv_rhs => unfold mean
  show Ideal.div _ _ = _
  refine congrArg (Ideal.div · _) (Finset.sum_congr rfl fun k _ => ?_)
  rw [show idx_main_v46 (ix2 b n) k = ix3 b n k from funext fun a => by match a with | ⟨0, _⟩ => rfl | ⟨1, _⟩ => rfl | ⟨2, _⟩ => rfl,
    val_main_v45_apply, val_main_v44_apply, v38_at x w1 b1 g1 be1 w2 b2 hb1 hg1 hbe1 hb2, val_main_v43_apply,
    show idx_main_v43 (ix3 b n k) = ix3 b n 0 from funext fun a => by match a with | ⟨0, _⟩ => rfl | ⟨1, _⟩ => rfl | ⟨2, _⟩ => rfl,
    v42_at x w1 b1 g1 be1 w2 b2 hb1 hg1 hbe1 hb2]
  rfl

/-- THE REFERENCE'S RESULT at an index, for biases zero and gains one. -/
theorem result_at (hb1 : ∀ i, b1 i = 0) (hg1 : ∀ i, g1 i = ((1 : ℝ) : EReal)) (hbe1 : ∀ i, be1 i = 0) (hb2 : ∀ i, b2 i = 0)
    (hg2 : ∀ i, g2 i = ((1 : ℝ) : EReal)) (hbe2 : ∀ i, be2 i = 0) (b : Fin 1024) (n : Fin 50) (j : Fin 256) :
    val_main_v62 (F := Ideal) x w1 b1 g1 be1 w2 b2 g2 be2 (ix3 b n j) = refOut x w1 w2 b n j := by
  rw [val_main_v62_apply, val_main_v61_apply, val_main_v60_apply, hbe2, val_main_v59_apply, val_main_v58_apply,
    val_main_v57_apply, hg2, val_main_v56_apply, val_main_v55_apply, val_main_v54_apply, val_main_v53_apply,
    val_main_v52_apply, val_main_cst_10_apply, wEps, val_main_v51_apply, val_main_v50_apply,
    show idx_main_v50 (ix3 b n j) = ix3 b n 0 from funext fun a => by match a with | ⟨0, _⟩ => rfl | ⟨1, _⟩ => rfl | ⟨2, _⟩ => rfl,
    show idx_main_v55 (ix3 b n j) = ix3 b n 0 from funext fun a => by match a with | ⟨0, _⟩ => rfl | ⟨1, _⟩ => rfl | ⟨2, _⟩ => rfl,
    v42_at x w1 b1 g1 be1 w2 b2 hb1 hg1 hbe1 hb2, v49_at x w1 b1 g1 be1 w2 b2 hb1 hg1 hbe1 hb2,
    v38_at x w1 b1 g1 be1 w2 b2 hb1 hg1 hbe1 hb2]
  show (_ * ((1 : ℝ) : EReal) + 0 : EReal) = _
  rw [add_zero, EReal.coe_one, mul_one]
  rfl

end

end Cert.RefValue

end
-- ==== Proof.Block.lean ====
/-
  What the kernel body computes of one block, read at an index at the ideal instance: of a block `x` of inputs, the
  first weights and the second weights as the body loads them, entry `(p, q, j)` is the kernel's formula of row
  `(p, q)` — the matrix product, the scale by half the reciprocal root of the mean square, `a + a · tanh a`, the second
  matrix product, the scale by the reciprocal root of its mean square.
-/
module

public import proofs.«01_k».proof.Proof.Gen.KernelIdeal.Skeleton
public import proofs.«01_k».proof.Proof.Norm
public import proofs.«01_k».proof.Proof.Words
public import Idealize.ShloMosaic.Lib.MatmulPlain
public import Idealize.ShloMosaic.Lib.Pipeline.Value

@[expose] public section

noncomputable section

namespace Cert.Block

open Cert.KernelIdeal Cert.KernelIdeal.Gen Cert.NormMath Cert.Words
open Idealize.ShloMosaic Idealize.ShloMosaic.ValueIdx

/-! ## The formula -/

/-- The kernel's pre-activation of a row already multiplied by the centred weights. -/
def kerHalf (g : Fin 1024 → EReal) (j : Fin 1024) : EReal :=
  g j * (((1 / 2 : ℝ) : EReal) * kerScale (((1024 : ℕ) : ℝ) : EReal) eps g)

/-- The kernel's hidden activation: `a + a · tanh a`. -/
def kerHidden (g : Fin 1024 → EReal) (j : Fin 1024) : EReal := kerHalf g j + kerHalf g j * Ideal.tanh (kerHalf g j)

/-- The kernel's result of a row `x`, of the weights as its host code centred them. -/
def kerOut (x : Fin 768 → EReal) (w1 : Fin 768 → Fin 1024 → EReal) (w2 : Fin 1024 → Fin 256 → EReal) (j : Fin 256) : EReal :=
  rowMul (kerHidden (rowMul x w1)) w2 j * kerScale (((256 : ℕ) : ℝ) : EReal) eps (rowMul (kerHidden (rowMul x w1)) w2)

/-! ## The body's stages -/

/-- Row `(p, q)` of a block is row `p · 64 + q` of the block laid flat. -/
def flatRow (p : Fin 50) (q : Fin 64) : Fin 3200 := ⟨p.val * 64 + q.val, by omega⟩

/-- The rows' sums over the hidden axis. -/
def sumHid (y : FVec Ideal S3200x1024 .f32) : FVec Ideal S3200 .f32 :=
  multiReduction .add [1] S3200 y 0x00000000#32 reduces_S3200x1024_S3200 (.inl rfl) rfl

/-- The rows' scale over the hidden axis: the reciprocal root of the mean square plus epsilon. -/
def scaleHid (g : FVec Ideal S3200x1024 .f32) : FVec Ideal S3200x1 .f32 :=
  rsqrt (addf (divf (shapeCast S3200x1 (sumHid (mulf g g))
    shapeCasts_S3200_S3200x1) (broadcast S3200x1 (Scalar.ofBits .f32 0x44800000#32))) (broadcast S3200x1 (Scalar.ofBits .f32 0x3727C5AC#32)))

/-- The rows' sums over the output axis. -/
def sumOut (y : FVec Ideal S3200x256 .f32) : FVec Ideal S3200 .f32 :=
  multiReduction .add [1] S3200 y 0x00000000#32 reduces_S3200x256_S3200 (.inl rfl) rfl

/-- The rows' scale over the output axis. -/
def scaleOut (g : FVec Ideal S3200x256 .f32) : FVec Ideal S3200x1 .f32 :=
  rsqrt (addf (divf (shapeCast S3200x1 (sumOut (mulf g g))
    shapeCasts_S3200_S3200x1) (broadcast S3200x1 (Scalar.ofBits .f32 0x43800000#32))) (broadcast S3200x1 (Scalar.ofBits .f32 0x3727C5AC#32)))

/-- The first matrix product of the block laid flat. -/
def prodHid (x : Vec Ideal S50x64x768 .f32) (w1 : Vec Ideal S768x1024 .bf16) : FVec Ideal S3200x1024 .f32 :=
  matmul dot_S3200x768_S768x1024_S3200x1024_1_0_0_1_n_n none
    (truncf .bf16 (shapeCast S3200x768 (shapeCast S50x64x768 x shapeCasts_S50x64x768_S50x64x768) shapeCasts_S50x64x768_S3200x768) bitsLt_bf16_f32)
    (shapeCast S768x1024 w1 shapeCasts_S768x1024_S768x1024 : FVec Ideal S768x1024 .bf16) (constant S3200x1024 .f32 0x00000000#32)

/-- The pre-activations. -/
def half (g : FVec Ideal S3200x1024 .f32) : FVec Ideal S3200x1024 .f32 :=
  mulf g (broadcastTo S3200x1024 (mulf (broadcast S3200x1 (Scalar.ofBits .f32 0x3F000000#32)) (scaleHid g)) broadcasts_S3200x1_S3200x1024)

/-- The second matrix product, of the activations. -/
def prodOut (a : FVec Ideal S3200x1024 .f32) (w2 : Vec Ideal S1024x256 .bf16) : FVec Ideal S3200x256 .f32 :=
  matmul dot_S3200x1024_S1024x256_S3200x256_1_0_0_1_n_n none
    (truncf .bf16 (addf a (mulf a (tanh a))) bitsLt_bf16_f32)
    (shapeCast S1024x256 w2 shapeCasts_S1024x256_S1024x256 : FVec Ideal S1024x256 .bf16) (constant S3200x256 .f32 0x00000000#32)

/-- The body's payload, composed of these stages. -/
theorem pay_stages (x : Vec Ideal S50x64x768 .f32) (w1 : Vec Ideal S768x1024 .bf16) (w2 : Vec Ideal S1024x256 .bf16) :
    k0_pay1 (F := Ideal) x w1 w2 = shapeCast S50x64x256
      (mulf (prodOut (half (prodHid x w1)) w2) (broadcastTo S3200x256 (scaleOut (prodOut (half (prodHid x w1)) w2)) broadcasts_S3200x1_S3200x256))
      shapeCasts_S3200x256_S50x64x256 := rfl

/-- A vector over the rows, cast to one column, read at a row. -/
theorem col_at (y : FVec Ideal S3200 .f32) (r : Fin 3200) (z : Fin 1) :
    shapeCast S3200x1 y shapeCasts_S3200_S3200x1 (ix2 r z) = y (ix1 r) :=
  shapeCast_apply y _ (ix2 r z) (ix1 r) (by
    rw [Shape.rowMajor_val_one, Shape.rowMajor_val_two]
    show r.val = r.val * 1 + z.val
    omega)

/-- The sum over the hidden axis at a row. -/
theorem sumHid_at (y : FVec Ideal S3200x1024 .f32) (r : Fin 3200) : sumHid y (ix1 r) = ∑ k : Fin 1024, y (ix2 r k) := by
  unfold sumHid
  refine (Ideal.multiReduction_add_single _ _ _ _ _ _).trans (Finset.sum_congr rfl fun k _ => congrArg y ?_)
  exact funext fun a => Fin.ext (by match a with | ⟨0, _⟩ => rfl | ⟨1, _⟩ => rfl)

/-- The hidden scale at a row. -/
theorem scaleHid_at (g : FVec Ideal S3200x1024 .f32) (r : Fin 3200) (z : Fin 1) :
    scaleHid g (ix2 r z) = kerScale (((1024 : ℕ) : ℝ) : EReal) eps (fun j => g (ix2 r j)) := by
  show Ideal.rsqrt (Ideal.div (shapeCast S3200x1 _ _ (ix2 r z)) (FloatOps.ofBits (F := Ideal) .f32 0x44800000#32)
    + FloatOps.ofBits (F := Ideal) .f32 0x3727C5AC#32) = _
  rw [col_at, w1024, wEps, sumHid_at]
  rfl

/-- The sum over the output axis at a row. -/
theorem sumOut_at (y : FVec Ideal S3200x256 .f32) (r : Fin 3200) : sumOut y (ix1 r) = ∑ k : Fin 256, y (ix2 r k) := by
  unfold sumOut
  refine (Ideal.multiReduction_add_single _ _ _ _ _ _).trans (Finset.sum_congr rfl fun k _ => congrArg y ?_)
  exact funext fun a => Fin.ext (by match a with | ⟨0, _⟩ => rfl | ⟨1, _⟩ => rfl)

/-- The output scale at a row. -/
theorem scaleOut_at (g : FVec Ideal S3200x256 .f32) (r : Fin 3200) (z : Fin 1) :
    scaleOut g (ix2 r z) = kerScale (((256 : ℕ) : ℝ) : EReal) eps (fun j => g (ix2 r j)) := by
  show Ideal.rsqrt (Ideal.div (shapeCast S3200x1 _ _ (ix2 r z)) (FloatOps.ofBits (F := Ideal) .f32 0x43800000#32)
    + FloatOps.ofBits (F := Ideal) .f32 0x3727C5AC#32) = _
  rw [col_at, w256, wEps, sumOut_at]
  rfl

/-- The first product at a row and column. -/
theorem prodHid_at (x : Vec Ideal S50x64x768 .f32) (w1 : Vec Ideal S768x1024 .bf16) (p : Fin 50) (q : Fin 64) (j : Fin 1024) :
    prodHid x w1 (ix2 (flatRow p q) j) = rowMul (fun k => x (ix3 p q k)) (fun k j => w1 (ix2 k j)) j := by
  unfold prodHid
  rw [shapeCast_self, shapeCast_self]
  refine (Ideal.matmul_plain_apply none _ _ _ (flatRow p q) j).trans ?_
  show (FloatOps.ofBits (F := Ideal) .f32 0x00000000#32 + _ : EReal) = _
  rw [wZero, zero_add]
  unfold rowMul
  refine Finset.sum_congr rfl fun k _ => ?_
  refine congrArg (· * _) ?_
  refine shapeCast_apply x shapeCasts_S50x64x768_S3200x768 (ix2 (flatRow p q) k) (ix3 p q k) ?_
  rw [Shape.rowMajor_val_three, Shape.rowMajor_val_two]
  rfl

/-- The pre-activation at a row and column. -/
theorem half_at (g : FVec Ideal S3200x1024 .f32) (r : Fin 3200) (j : Fin 1024) :
    half g (ix2 r j) = kerHalf (fun j => g (ix2 r j)) j := by
  unfold half kerHalf
  show g (ix2 r j) * broadcastTo S3200x1024 _ _ (ix2 r j) = _
  rw [broadcastTo_apply _ _ (ix2 r j) (ix2 r (0 : Fin 1)) (fun a => match a with
    | ⟨0, _⟩ => by show r.val = if (3200 : Nat) = 1 then 0 else r.val; rw [if_neg (by decide)]
    | ⟨1, _⟩ => by show 0 = if (1 : Nat) = 1 then 0 else j.val; rw [if_pos rfl])]
  show g (ix2 r j) * (FloatOps.ofBits (F := Ideal) .f32 0x3F000000#32 * scaleHid g (ix2 r 0)) = _
  rw [wHalf, scaleHid_at]

/-- The second product at a row and column. -/
theorem prodOut_at (a : FVec Ideal S3200x1024 .f32) (w2 : Vec Ideal S1024x256 .bf16) (r : Fin 3200) (j : Fin 256) :
    prodOut a w2 (ix2 r j) = rowMul (fun k => a (ix2 r k) + a (ix2 r k) * Ideal.tanh (a (ix2 r k))) (fun k j => w2 (ix2 k j)) j := by
  unfold prodOut
  rw [shapeCast_self]
  refine (Ideal.matmul_plain_apply none _ _ _ r j).trans ?_
  show (FloatOps.ofBits (F := Ideal) .f32 0x00000000#32 + _ : EReal) = _
  rw [wZero, zero_add]
  rfl

/-- THE BLOCK at an index: the kernel's formula of the block's row. -/
theorem pay_at (x : Vec Ideal S50x64x768 .f32) (w1 : Vec Ideal S768x1024 .bf16) (w2 : Vec Ideal S1024x256 .bf16)
    (p : Fin 50) (q : Fin 64) (j : Fin 256) :
    k0_pay1 (F := Ideal) x w1 w2 (ix3 p q j)
      = kerOut (fun k => x (ix3 p q k)) (fun k j => w1 (ix2 k j)) (fun k j => w2 (ix2 k j)) j := by
  have hy : ∀ j, prodOut (half (prodHid x w1)) w2 (ix2 (flatRow p q) j)
      = rowMul (kerHidden (rowMul (fun k => x (ix3 p q k)) (fun k j => w1 (ix2 k j)))) (fun k j => w2 (ix2 k j)) j := by
    intro j
    rw [prodOut_at]
    refine congrArg (fun f => rowMul f (fun k j => w2 (ix2 k j)) j) (funext fun k => ?_)
    rw [half_at]
    simp only [prodHid_at]
    rfl
  rw [pay_stages, shapeCast_apply _ shapeCasts_S3200x256_S50x64x256 (ix3 p q j) (ix2 (flatRow p q) j) (by
    rw [Shape.rowMajor_val_three, Shape.rowMajor_val_two]; rfl)]
  show prodOut _ _ _ * broadcastTo S3200x256 _ _ (ix2 (flatRow p q) j) = _
  rw [broadcastTo_apply _ _ (ix2 (flatRow p q) j) (ix2 (flatRow p q) (0 : Fin 1)) (fun a => match a with
    | ⟨0, _⟩ => by show (flatRow p q).val = if (3200 : Nat) = 1 then 0 else (flatRow p q).val; rw [if_neg (by decide)]
    | ⟨1, _⟩ => by show 0 = if (1 : Nat) = 1 then 0 else j.val; rw [if_pos rfl]), scaleOut_at]
  simp only [hy]
  rfl

end Cert.Block

end
-- ==== Proof.Agree.lean ====
/-
  The kernel's formula and the reference's agree: for a row of real inputs and any weights (finite or not), the
  kernel's two scaled products over centred weights are the reference's two layer norms.
-/
module

public import proofs.«01_k».proof.Proof.RefValue
public import proofs.«01_k».proof.Proof.Block

@[expose] public section

noncomputable section

namespace Cert.Agree

open Cert.NormMath Cert.Words Cert.Block Cert.RefValue
open Idealize.ShloMosaic

/-- The hidden layers agree, entry by entry, and are real. -/
theorem hidden_agree (x : Fin 768 → ℝ) (W : Fin 768 → Fin 1024 → EReal) :
    ∃ h : Fin 1024 → ℝ,
      kerHidden (rowMul (fun k => (x k : EReal)) (centred (((1024 : ℕ) : ℝ) : EReal) W)) = (fun j => (h j : EReal)) ∧
      (fun j => refSwish (refNorm (((1024 : ℕ) : ℝ) : EReal) eps (rowMul (fun k => (x k : EReal)) W) j)) = (fun j => (h j : EReal)) := by
  obtain ⟨R, s, hs, href, -, hker⟩ := norm_agree (n := 1024) (by decide) eps_pos x W
  refine ⟨fun j => R j * (1 / (1 + Real.exp (-R j))), funext fun j => ?_, funext fun j => ?_⟩
  · have hh : kerHalf (rowMul (fun k => (x k : EReal)) (centred (((1024 : ℕ) : ℝ) : EReal) W)) j = ((1 / 2 * R j : ℝ) : EReal) := by
      unfold kerHalf
      rw [← hs]
      exact hker j (1 / 2)
    unfold kerHidden
    rw [hh]
    exact (swish_agree (R j)).1
  · rw [href j]
    exact (swish_agree (R j)).2

/-- THE FORMULAS AGREE on a row of real inputs. -/
theorem out_agree (x : Fin 768 → EReal) (hx : ∀ k, ∃ r : ℝ, x k = r) (W1 : Fin 768 → Fin 1024 → EReal)
    (W2 : Fin 1024 → Fin 256 → EReal) (j : Fin 256) :
    kerOut x (centred (((1024 : ℕ) : ℝ) : EReal) W1) (centred (((256 : ℕ) : ℝ) : EReal) W2) j
      = refNorm (((256 : ℕ) : ℝ) : EReal) eps
          (rowMul (fun j => refSwish (refNorm (((1024 : ℕ) : ℝ) : EReal) eps (rowMul x W1) j)) W2) j := by
  choose r hr using hx
  obtain rfl : x = fun k => (r k : EReal) := funext hr
  obtain ⟨h, hk, hf⟩ := hidden_agree r W1
  obtain ⟨R, s, hs, href, hker, -⟩ := norm_agree (n := 256) (by decide) eps_pos h W2
  unfold kerOut
  rw [hk, hf, href j, ← hs]
  exact hker j

end Cert.Agree

end
-- ==== Proof.HostValue.lean ====
/-
  What the kernel's host code hands to its call, at the ideal instance: the weights with every row's mean taken away
  (the cast to bf16 is the identity there), and the inputs with their two leading axes exchanged.
-/
module

public import proofs.«01_k».proof.Proof.Gen.KernelIdeal.Frame
public import proofs.«01_k».proof.Proof.Norm
public import proofs.«01_k».proof.Proof.Words
public import Idealize.ShloMosaic.Lib.Pipeline.Value
public import Idealize.ShloMosaic.Lib.ValueIdx

@[expose] public section

noncomputable section

namespace Cert.HostValue

open Cert.KernelIdeal Cert.KernelIdeal.Gen Cert.NormMath Cert.Words
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The first weights less their row means, as the host computes them. -/
def centreHid (w : FVec Ideal S768x1024 .f32) : FVec Ideal S768x1024 .f32 :=
  subf w (broadcastInDim S768x1024 ![0, 1] bcast_S768x1_S768x1024_0_1
    (Host.divf (broadcastInDim S768x1 ![0] bcast_S768_S768x1_0 (Host.reduceAdd w (constant S_ .f32 0x00000000#32) reducesTo_S768x1024_S768_d1 h_S_))
      (broadcastInDim S768x1 ![] bcast_S_S768x1 (constant S_ .f32 0x44800000#32))))

/-- The second weights less their row means, as the host computes them. -/
def centreOut (w : FVec Ideal S1024x256 .f32) : FVec Ideal S1024x256 .f32 :=
  subf w (broadcastInDim S1024x256 ![0, 1] bcast_S1024x1_S1024x256_0_1
    (Host.divf (broadcastInDim S1024x1 ![0] bcast_S1024_S1024x1_0 (Host.reduceAdd w (constant S_ .f32 0x00000000#32) reducesTo_S1024x256_S1024_d1 h_S_))
      (broadcastInDim S1024x1 ![] bcast_S_S1024x1 (constant S_ .f32 0x43800000#32))))

/-- The row sums of the first weights, at a row. -/
theorem sumHid_at (w : FVec Ideal S768x1024 .f32) (k : Fin 768) :
    Host.reduceAdd w (constant S_ .f32 0x00000000#32) reducesTo_S768x1024_S768_d1 h_S_ (ix1 k) = ∑ j : Fin 1024, w (ix2 k j) := by
  simp only [Host.reduceAdd, Ideal.hostReduceAdd_def]
  rw [Ideal.hostReduceAdd_single reducesTo_S768x1024_S768_d1 (by decide)]
  show (FloatOps.ofBits (F := Ideal) .f32 0x00000000#32 + _ : EReal) = _
  rw [wZero, zero_add]
  exact Finset.sum_congr rfl fun j _ => congrArg w (funext fun a => Fin.ext (by match a with | ⟨0, _⟩ => rfl | ⟨1, _⟩ => rfl))

/-- The row sums of the second weights, at a row. -/
theorem sumOut_at (w : FVec Ideal S1024x256 .f32) (k : Fin 1024) :
    Host.reduceAdd w (constant S_ .f32 0x00000000#32) reducesTo_S1024x256_S1024_d1 h_S_ (ix1 k) = ∑ j : Fin 256, w (ix2 k j) := by
  simp only [Host.reduceAdd, Ideal.hostReduceAdd_def]
  rw [Ideal.hostReduceAdd_single reducesTo_S1024x256_S1024_d1 (by decide)]
  show (FloatOps.ofBits (F := Ideal) .f32 0x00000000#32 + _ : EReal) = _
  rw [wZero, zero_add]
  exact Finset.sum_congr rfl fun j _ => congrArg w (funext fun a => Fin.ext (by match a with | ⟨0, _⟩ => rfl | ⟨1, _⟩ => rfl))

/-- The centred first weights at an index. -/
theorem centreHid_at (w : FVec Ideal S768x1024 .f32) (k : Fin 768) (j : Fin 1024) :
    centreHid w (ix2 k j) = centred (((1024 : ℕ) : ℝ) : EReal) (fun k j => w (ix2 k j)) k j := by
  unfold centreHid centred mean
  refine congrArg (fun a : EReal => w (ix2 k j) - a) ?_
  rw [broadcastInDim_apply _ _ _ (ix2 k j) (ix2 k (0 : Fin 1)) (fun a => match a with
    | ⟨0, _⟩ => by show k.val = if (768 : Nat) = 1 then 0 else k.val; rw [if_neg (by decide)]
    | ⟨1, _⟩ => by show 0 = if (1 : Nat) = 1 then 0 else j.val; rw [if_pos rfl])]
  refine congrArg₂ Ideal.div ?_ w1024
  rw [broadcastInDim_apply _ _ _ (ix2 k (0 : Fin 1)) (ix1 k) (fun a => match a with
    | ⟨0, _⟩ => by show k.val = if (768 : Nat) = 1 then 0 else k.val; rw [if_neg (by decide)]), sumHid_at]

/-- The centred second weights at an index. -/
theorem centreOut_at (w : FVec Ideal S1024x256 .f32) (k : Fin 1024) (j : Fin 256) :
    centreOut w (ix2 k j) = centred (((256 : ℕ) : ℝ) : EReal) (fun k j => w (ix2 k j)) k j := by
  unfold centreOut centred mean
  refine congrArg (fun a : EReal => w (ix2 k j) - a) ?_
  rw [broadcastInDim_apply _ _ _ (ix2 k j) (ix2 k (0 : Fin 1)) (fun a => match a with
    | ⟨0, _⟩ => by show k.val = if (1024 : Nat) = 1 then 0 else k.val; rw [if_neg (by decide)]
    | ⟨1, _⟩ => by show 0 = if (1 : Nat) = 1 then 0 else j.val; rw [if_pos rfl])]
  refine congrArg₂ Ideal.div ?_ w256
  rw [broadcastInDim_apply _ _ _ (ix2 k (0 : Fin 1)) (ix1 k) (fun a => match a with
    | ⟨0, _⟩ => by show k.val = if (1024 : Nat) = 1 then 0 else k.val; rw [if_neg (by decide)]), sumOut_at]

/-- The call's second operand: the first weights centred. -/
theorem V_v6 (c : Dev nD) : V m c main_v6 = centreHid (m ((c : Thread nD τ).loc main_arg1)) := by
  show StableHlo.after _ _ (Proc.devRef .tc main_v6) = _
  simp only [hostOps0, List.flatten_cons, List.flatten_nil, List.append_nil]
  after_results
  rfl

/-- The call's third operand: the second weights centred. -/
theorem V_v13 (c : Dev nD) : V m c main_v13 = centreOut (m ((c : Thread nD τ).loc main_arg5)) := by
  show StableHlo.after _ _ (Proc.devRef .tc main_v13) = _
  simp only [hostOps0, List.flatten_cons, List.flatten_nil, List.append_nil]
  after_results
  rfl

/-- The call's first operand: the inputs, their leading axes exchanged. -/
theorem V_v14 (c : Dev nD) : V m c main_v14 = transpose S50x1024x768 [1, 0, 2] (m ((c : Thread nD τ).loc main_arg0)) transposes_S1024x50x768_S50x1024x768_1_0_2 := by
  show StableHlo.after _ _ (Proc.devRef .tc main_v14) = _
  simp only [hostOps0, List.flatten_cons, List.flatten_nil, List.append_nil]
  after_results

/-- The second operand at an index. -/
theorem V_v6_at (c : Dev nD) (k : Fin 768) (j : Fin 1024) :
    V m c main_v6 (ix2 k j) = centred (((1024 : ℕ) : ℝ) : EReal) (fun k j => m ((c : Thread nD τ).loc main_arg1) (ix2 k j)) k j := by
  rw [V_v6]; exact centreHid_at _ k j

/-- The third operand at an index. -/
theorem V_v13_at (c : Dev nD) (k : Fin 1024) (j : Fin 256) :
    V m c main_v13 (ix2 k j) = centred (((256 : ℕ) : ℝ) : EReal) (fun k j => m ((c : Thread nD τ).loc main_arg5) (ix2 k j)) k j := by
  rw [V_v13]; exact centreOut_at _ k j

/-- The first operand at an index. -/
theorem V_v14_at (c : Dev nD) (n : Fin 50) (b : Fin 1024) (k : Fin 768) :
    V m c main_v14 (ix3 n b k) = m ((c : Thread nD τ).loc main_arg0) (ix3 b n k) := by
  rw [V_v14]
  exact transpose_apply _ _ _ (ix3 n b k) (ix3 b n k) (fun a => match a with | ⟨0, _⟩ => rfl | ⟨1, _⟩ => rfl | ⟨2, _⟩ => rfl)

end Cert.HostValue

end
-- ==== Proof.KernelValue.lean ====
/-
  The kernel's result array, at the ideal instance. What each grid point writes back is its block of one function of
  the whole arrays; the sixteen blocks fill the call's result; the host's last operation exchanges its two leading axes.
-/
module

public import proofs.«01_k».proof.Proof.HostValue
public import proofs.«01_k».proof.Proof.Block
public import Idealize.ShloMosaic.Lib.Pipeline.Value

@[expose] public section

noncomputable section

namespace Cert.KernelValue

open Cert.KernelIdeal Cert.KernelIdeal.Gen Cert.NormMath Cert.Block
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The call's result as a function of the call's operands: the kernel's formula, row by row. -/
def callOut (c : Dev nD) : Buf (Elt Ideal) ((c : Thread nD τ).loc main_v15) := fun i : S50x1024x256.Idx =>
  kerOut (fun k => V m c main_v14 (ix3 (i 0) (i 1) k)) (fun k j => V m c main_v6 (ix2 k j)) (fun k j => V m c main_v13 (ix2 k j)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- Where each window's block starts at a point, and how large the result's is. -/
theorem starts (t : Fin cfg0.N) :
    (win0_0.index t 0 * win0_0.size 0 = 0 ∧ win0_0.index t 1 * win0_0.size 1 = t.val * 64 ∧ win0_0.index t 2 * win0_0.size 2 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = t.val * 64 ∧ win0_3.index t 2 * win0_3.size 2 = 0)
    ∧ (win0_3.xsize (grid0.coords t) 0 = 50 ∧ win0_3.xsize (grid0.coords t) 1 = 64 ∧ win0_3.xsize (grid0.coords t) 2 = 256) := by
  rcases fin_N0 t with h | h | h | h | h | h | h | h | h | h | h | h | h | h | h | h <;> subst h <;> decide +kernel

/-- The row of the whole array that row `q` of point `t`'s block is. -/
def blkRow (t : Fin cfg0.N) (q : Fin 64) : Fin 1024 :=
  ⟨t.val * 64 + q.val, by have h : t.val < 16 := lt_of_lt_of_eq t.isLt N_0; have := q.isLt; omega⟩

/-- The block of the inputs at a point. -/
theorem iblk0_at (c : Dev nD) (t : Fin cfg0.N) (p : Fin 50) (q : Fin 64) (k : Fin 768) :
    (iblk m c 0 t : Vec Ideal S50x64x768 .f32) (ix3 p q k) = V m c main_v14 (ix3 p (blkRow t q) k) := by
  show V m c main_v14 ((win0_0.rect t).emb (ix3 p q k)) = _
  refine congrArg (V m c main_v14) (funext fun a => Fin.ext ?_)
  have e := (starts t).1
  refine (Pipeline.Window.rect_emb_val win0_0 t _ a).trans ?_
  match a with
  | ⟨0, _⟩ => show win0_0.index t 0 * win0_0.size 0 + p.val = p.val; rw [e.1, Nat.zero_add]
  | ⟨1, _⟩ => show win0_0.index t 1 * win0_0.size 1 + q.val = t.val * 64 + q.val; rw [e.2.1]
  | ⟨2, _⟩ => show win0_0.index t 2 * win0_0.size 2 + k.val = k.val; rw [e.2.2, Nat.zero_add]

/-- The block of the first weights: all of them. -/
theorem iblk1_at (c : Dev nD) (t : Fin cfg0.N) (k : Fin 768) (j : Fin 1024) :
    (iblk m c 1 t : Vec Ideal S768x1024 .bf16) (ix2 k j) = V m c main_v6 (ix2 k j) := by
  show V m c main_v6 ((win0_1.rect t).emb (ix2 k j)) = _
  refine congrArg (V m c main_v6) (funext fun a => Fin.ext ?_)
  have e := (starts t).2.1
  refine (Pipeline.Window.rect_emb_val win0_1 t _ a).trans ?_
  match a with
  | ⟨0, _⟩ => show win0_1.index t 0 * win0_1.size 0 + k.val = k.val; rw [e.1, Nat.zero_add]
  | ⟨1, _⟩ => show win0_1.index t 1 * win0_1.size 1 + j.val = j.val; rw [e.2, Nat.zero_add]

/-- The block of the second weights: all of them. -/
theorem iblk2_at (c : Dev nD) (t : Fin cfg0.N) (k : Fin 1024) (j : Fin 256) :
    (iblk m c 2 t : Vec Ideal S1024x256 .bf16) (ix2 k j) = V m c main_v13 (ix2 k j) := by
  show V m c main_v13 ((win0_2.rect t).emb (ix2 k j)) = _
  refine congrArg (V m c main_v13) (funext fun a => Fin.ext ?_)
  have e := (starts t).2.2.1
  refine (Pipeline.Window.rect_emb_val win0_2 t _ a).trans ?_
  match a with
  | ⟨0, _⟩ => show win0_2.index t 0 * win0_2.size 0 + k.val = k.val; rw [e.1, Nat.zero_add]
  | ⟨1, _⟩ => show win0_2.index t 1 * win0_2.size 1 + j.val = j.val; rw [e.2, Nat.zero_add]

/-- Where the result's block puts its index. -/
theorem emb3 (t : Fin cfg0.N) (p : Fin 50) (q : Fin 64) (j : Fin 256) :
    ((win0_3.rect t).emb (ix3 p q j) : S50x1024x256.Idx) = ix3 p (blkRow t q) j := by
  refine funext fun a => Fin.ext ?_
  have e := (starts t).2.2.2.1
  refine (Pipeline.Window.rect_emb_val win0_3 t _ a).trans ?_
  match a with
  | ⟨0, _⟩ => show win0_3.index t 0 * win0_3.size 0 + p.val = p.val; rw [e.1, Nat.zero_add]
  | ⟨1, _⟩ => show win0_3.index t 1 * win0_3.size 1 + q.val = t.val * 64 + q.val; rw [e.2.1]
  | ⟨2, _⟩ => show win0_3.index t 2 * win0_3.size 2 + j.val = j.val; rw [e.2.2, Nat.zero_add]

/-- What a point computes at an index of its block. -/
theorem pay_blk (c : Dev nD) (t : Fin cfg0.N) (p : Fin 50) (q : Fin 64) (j : Fin 256) :
    k0_pay1 (F := Ideal) (iblk m c 0 t : Vec Ideal S50x64x768 .f32) (iblk m c 1 t : Vec Ideal S768x1024 .bf16)
      (iblk m c 2 t : Vec Ideal S1024x256 .bf16) (ix3 p q j) = callOut m c (ix3 p (blkRow t q) j) := by
  rw [pay_at]
  show _ = kerOut (fun k => V m c main_v14 (ix3 p (blkRow t q) k)) (fun k j => V m c main_v6 (ix2 k j)) (fun k j => V m c main_v13 (ix2 k j)) j
  rw [funext fun k => iblk0_at m c t p q k, funext fun k => funext fun j => iblk1_at m c t k j,
    funext fun k => funext fun j => iblk2_at m c t k j]

/-- The same at any index of the block: the whole function where the block puts the index. -/
theorem pay_emb (c : Dev nD) (t : Fin cfg0.N) (y : S50x64x256.Idx) :
    k0_pay1 (F := Ideal) (iblk m c 0 t : Vec Ideal S50x64x768 .f32) (iblk m c 1 t : Vec Ideal S768x1024 .bf16)
      (iblk m c 2 t : Vec Ideal S1024x256 .bf16) y = callOut m c ((win0_3.rect t).emb y) := by
  obtain ⟨p, q, j, rfl⟩ : ∃ p q j, y = ix3 p q j := ⟨_, _, _, eq_ix3 y⟩
  exact (pay_blk m c t p q j).trans (congrArg (callOut m c) (emb3 t p q j).symm)

/-- What a point writes back is its block of the whole function. -/
theorem flushed_eq (c : Dev nD) (t : Fin cfg0.N) :
    (dats m 0 c).flushed 3 t = (win0_3.blk t).view.read (Elt Ideal) (callOut m c) := by
  show (cfg0.win 3).cut (grid0.coords t) ((dats m 0 c).after 3 t) = _
  rw [after0_3]
  unfold out0_3
  rw [View.canon_unit_zero hz3, View.ld_unit_zero hz3, View.ld_unit_zero hz2, View.ld_unit_zero hz2]
  exact funext fun y => pay_emb m c t y

/-- An index of the call's result is in point `t`'s block when its second coordinate is one of the block's rows. -/
theorem mem_blk (t : Fin cfg0.N) (i : S50x1024x256.Idx) :
    i ∈ ((cfg0.win 3).blk t).view.set ↔ t.val * 64 ≤ (i 1 : Nat) ∧ (i 1 : Nat) < t.val * 64 + 64 := by
  show i ∈ ((View.whole main_v15).slice (win0_3.rect t)).set ↔ _
  rw [View.set_slice_whole, Rect.mem_set_unit]
  have h0 : (i 0 : Nat) < 50 := (i 0).isLt
  have h2 : (i 2 : Nat) < 256 := (i 2).isLt
  obtain ⟨-, -, -, ⟨e0, e1, e2⟩, x0, x1, x2⟩ := starts t
  refine ⟨fun h => ?_, fun h a => ?_⟩
  · have : win0_3.index t 1 * win0_3.size 1 ≤ (i 1 : Nat) ∧ (i 1 : Nat) < win0_3.index t 1 * win0_3.size 1 + win0_3.xsize (grid0.coords t) 1 := h 1
    rw [e1, x1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0, x0]; omega
    | ⟨1, _⟩ => show win0_3.index t 1 * win0_3.size 1 ≤ (i 1 : Nat) ∧ (i 1 : Nat) < win0_3.index t 1 * win0_3.size 1 + win0_3.xsize (grid0.coords t) 1
                rw [e1, x1]; exact h
    | ⟨2, _⟩ => show win0_3.index t 2 * win0_3.size 2 ≤ (i 2 : Nat) ∧ (i 2 : Nat) < win0_3.index t 2 * win0_3.size 2 + win0_3.xsize (grid0.coords t) 2
                rw [e2, x2]; omega

/-- The sixteen blocks fill the call's result. -/
theorem cover (i : S50x1024x256.Idx) :
    ∃ t : Fin cfg0.N, (cfg0.win 3).flush t = true ∧ i ∈ ((cfg0.win 3).blk t).view.set := by
  have h1 : (i 1 : Nat) < 1024 := (i 1).isLt
  have hN : cfg0.N = 16 := N_0
  refine ⟨⟨(i 1 : Nat) / 64, by omega⟩, flush0_3 _, ?_⟩
  rw [mem_blk]
  dsimp only
  omega

/-- So the call's result ends holding the whole function. -/
theorem final_call (c : Dev nD) : (dats m 0 c).arrAt 3 cfg0.N = callOut m c :=
  (dats m 0 c).arrAt_eq_of_cover 3 (callOut m c) (fun t _ => flushed_eq m c t) cover

/-- The kernel's result: the call's, its two leading axes exchanged back. -/
def result (c : Dev nD) : Buf (Elt Ideal) ((c : Thread nD τ).loc main_v16) :=
  transpose S1024x50x256 [1, 0, 2] (callOut m c) transposes_S50x1024x256_S1024x50x256_1_0_2

/-- The windows' arrays are distinct. -/
theorem arr_inj : Function.Injective (Pipeline.arrRef spec0) := by decide

/-- The host's last operation, read. -/
theorem tail_v16 (c : Dev nD) :
    Pipeline.afterTail₀ cfgs (dats m) 0 (V0 m) [hostOps1] c main_v16 = result m c := by
  unfold Pipeline.afterTail₀
  simp only [hostOps1, List.flatten_cons, List.flatten_nil, List.append_nil]
  after_results
  unfold result
  refine congrArg (fun a => transpose S1024x50x256 [1, 0, 2] a transposes_S50x1024x256_S1024x50x256_1_0_2) ?_
  exact (Pipeline.withArrays_arr spec0 arr_inj c (V0 m c) (fun w => (dats m 0 c).arrAt w cfg0.N) 3).trans (final_call m c)

/-- The kernel's result at an index, as a formula of the kernel's arguments. -/
theorem result_at (c : Dev nD) (b : Fin 1024) (n : Fin 50) (j : Fin 256) :
    result m c (ix3 b n j)
      = kerOut (fun k => m ((c : Thread nD τ).loc main_arg0) (ix3 b n k))
          (centred (((1024 : ℕ) : ℝ) : EReal) (fun k j => m ((c : Thread nD τ).loc main_arg1) (ix2 k j)))
          (centred (((256 : ℕ) : ℝ) : EReal) (fun k j => m ((c : Thread nD τ).loc main_arg5) (ix2 k j))) j := by
  unfold result
  refine (transpose_apply _ _ _ (ix3 b n j) (ix3 n b j) (fun a => match a with | ⟨0, _⟩ => rfl | ⟨1, _⟩ => rfl | ⟨2, _⟩ => rfl)).trans ?_
  show kerOut (fun k => V m c main_v14 (ix3 n b k)) (fun k j => V m c main_v6 (ix2 k j)) (fun k j => V m c main_v13 (ix2 k j)) j = _
  rw [funext fun k => HostValue.V_v14_at m c n b k, funext fun k => funext fun j => HostValue.V_v6_at m c k j,
    funext fun k => funext fun j => HostValue.V_v13_at m c k j]

/-- THE RUN: the result array ends holding `result`, and the arguments are unchanged. -/
theorem run : θ_run defs (onTc (τ := τ) (main (F := Ideal))) ⟨m, fun _ => 0, ρ⟩ fun r =>
      (∀ c : Dev nD, r.2.mem ((c : Thread nD τ).loc main_v16) = result m c)
      ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_and
    ((θ_run defs _ _).mono
      (fun _ h c => ((h c).2 main_v16 (Pipeline.mem_restRefs_of main_v16 (by decide) (by decide))).trans (tail_v16 m c))
      (run_main m ρ))
    (unchanged m ρ)

end Cert.KernelValue

end
-- ==== Proof.lean ====
/-
  The proof of `Cert.Claim` (proofs.«01_k».proof.Defs).

  The frames are the generated ones, the reference's from its generated run. The ideal pass rewrote nothing, so the
  preservation is immediate. The value claim: the kernel's result array is its formula of the arguments
  (Proof/KernelValue.lean), the reference's is its own (Proof/RefValue.lean, which asks for the biases zero and the
  gains one), and the two formulas agree on real inputs (Proof/Agree.lean, over Proof/Norm.lean). Proof/Pre.lean reads
  the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Agree
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Idealize.ShloMosaic.ValueIdx

/-- The precondition's side conditions, for the statements that take them. -/
instance preFacts : Cert.Pre_plain_parameters.Facts := Cert.Pre.facts

/-- The kernel keeps its arguments and ends quiescent. -/
theorem frame_kernel : Cert.quiescent_Kernel := fun m ρ _ => Cert.Kernel.Gen.frame m ρ

/-- So does its idealization, -/
theorem frame_ideal : Cert.quiescent_KernelIdeal := fun m ρ _ => Cert.KernelIdeal.Gen.frame m ρ

/-- under the precondition too. -/
theorem frame_ideal_pre : Cert.quiescent_KernelIdeal_pre_plain_parameters := fun m ρ _ => Cert.KernelIdeal.Gen.frame m ρ

/-- And the reference, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- under the precondition too. -/
theorem frame_reference_pre : Cert.quiescent_ReferenceIdeal_pre_plain_parameters := fun m ρ _ => frame_reference m ρ trivial

/-- The ideal pass rewrote nothing. -/
theorem preserves : Cert.preserves_Kernel_KernelIdeal := trivial

/-- The two results are one array, when the precondition holds and the arguments are the same. -/
theorem value (m : (ℓ : Loc Cert.KernelIdeal.nD Cert.KernelIdeal.τ Cert.KernelIdeal.sig) → Buf (Elt Ideal) ℓ)
    (hpre : Cert.Pre_KernelIdeal_plain_parameters m) (c : Dev Cert.KernelIdeal.nD) :
    Cert.ReferenceIdeal.Read.val_main_v62 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelValue.result m c := by
  obtain ⟨hx, hb1, hg1, hbe1, hb2, hg2, hbe2⟩ := Cert.Pre.read _ _ _ _ _ _ _ _ _ (hpre c)
  funext i
  obtain ⟨b, n, j, rfl⟩ : ∃ b n j, i = ix3 b n j := ⟨_, _, _, eq_ix3 i⟩
  refine (Cert.RefValue.result_at _ _ _ _ _ _ _ _ _ hb1 hg1 hbe1 hb2 hg2 hbe2 b n j).trans ?_
  refine Eq.trans ?_ (Cert.KernelValue.result_at m c b n j).symm
  exact (Cert.Agree.out_agree _ (fun k => hx (ix3 b n k)) _ _ j).symm

/-- THE VALUE CLAIM: on every device the kernel's result array and the reference's end holding the same array. -/
theorem algebraic : Cert.algebraic_KernelIdeal_ReferenceIdeal_pre_plain_parameters := by
  intro m g m' g' hpre hargs
  refine ⟨fun c => Cert.KernelValue.result m c, ?_, ?_⟩
  · exact (θ_run Cert.KernelIdeal.defs _ _).mono (fun _ h c => ⟨h.1 c, h.2 c⟩) (Cert.KernelValue.run m g)
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v62_eq]
    obtain ⟨e0, e1, e2, e3, e4, e5, e6, e7, e8⟩ := hargs c
    rw [e0, e1, e2, e3, e4, e5, e6, e7, e8]
    exact value m hpre c

theorem claim : Cert.Claim :=
  ⟨Cert.Kernel.Gen.facts, Cert.KernelIdeal.Gen.facts, Cert.ReferenceIdeal.Gen.facts, Cert.Pre.facts,
    frame_kernel, frame_ideal, frame_ideal_pre, frame_reference, frame_reference_pre, preserves, algebraic⟩

end Cert.Proof

end
